-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S16x2048x128 : Shape := ⟨3, ![16, 2048, 128]⟩
abbrev S16 : Shape := ⟨1, ![16]⟩
abbrev S5000x128 : Shape := ⟨2, ![5000, 128]⟩
abbrev S5000 : Shape := ⟨1, ![5000]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S5000 : S_.BroadcastsInDim S5000 (![] : Fin 0 → Fin S5000.rank)
  reducesTo_S5000_S_d0 : S5000.ReducesTo [0] S_

variable [Facts]

def fn {F : FTy → Type} [FloatOps F] (main_arg0 : FVec F S16x2048x128 .f32) (main_arg1 : IVec S16 32) (main_arg2 : FVec F S5000x128 .f32) (main_arg3 : FVec F S5000 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S5000x128 .f32 := Host.absf main_arg2
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S5000 .f32 := Host.absf main_arg3
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  main_v13
-- ==== Kernel.lean ====
abbrev S16x2048x128 : Shape := ⟨3, ![16, 2048, 128]⟩
abbrev S16 : Shape := ⟨1, ![16]⟩
abbrev S5000x128 : Shape := ⟨2, ![5000, 128]⟩
abbrev S5000 : Shape := ⟨1, ![5000]⟩
abbrev S_ : Shape := ⟨0, ![]⟩
abbrev S5000x1 : Shape := ⟨2, ![5000, 1]⟩
abbrev S5000x7 : Shape := ⟨2, ![5000, 7]⟩
abbrev S5000x136 : Shape := ⟨2, ![5000, 136]⟩
abbrev S1x1 : Shape := ⟨2, ![1, 1]⟩
abbrev S16x5000x2048 : Shape := ⟨3, ![16, 5000, 2048]⟩
abbrev S1x1024x128 : Shape := ⟨3, ![1, 1024, 128]⟩
abbrev S1x5000x1024 : Shape := ⟨3, ![1, 5000, 1024]⟩
abbrev S1024x128 : Shape := ⟨2, ![1024, 128]⟩
abbrev S1024x1 : Shape := ⟨2, ![1024, 1]⟩
abbrev S1024x7 : Shape := ⟨2, ![1024, 7]⟩
abbrev S1024x136 : Shape := ⟨2, ![1024, 136]⟩
abbrev S5000x1024 : Shape := ⟨2, ![5000, 1024]⟩
abbrev S1024 : Shape := ⟨1, ![1024]⟩
abbrev S1x1024 : Shape := ⟨2, ![1, 1024]⟩
abbrev S2496x136 : Shape := ⟨2, ![2496, 136]⟩
abbrev S2496x1024 : Shape := ⟨2, ![2496, 1024]⟩
abbrev S1x2496x1024 : Shape := ⟨3, ![1, 2496, 1024]⟩
abbrev S2504x136 : Shape := ⟨2, ![2504, 136]⟩
abbrev S2504x1024 : Shape := ⟨2, ![2504, 1024]⟩
abbrev S1x2504x1024 : Shape := ⟨3, ![1, 2504, 1024]⟩
abbrev S16x2048x5000 : Shape := ⟨3, ![16, 2048, 5000]⟩

abbrev nBuf : Space → Nat
  | .hbm => 28
  | .vmem => 6
  | .smem => 0
  | _ => 0

abbrev bufTy : (tb : Table) → Fin (tcTables nBuf tb) → BufTy
  | .hbm, ⟨0, _⟩ => ⟨S16x2048x128, .f32⟩
  | .hbm, ⟨1, _⟩ => ⟨S16, .i32⟩
  | .hbm, ⟨2, _⟩ => ⟨S5000x128, .f32⟩
  | .hbm, ⟨3, _⟩ => ⟨S5000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S5000x128, .f32⟩
  | .hbm, ⟨9, _⟩ => ⟨S5000x128, .f32⟩
  | .hbm, ⟨10, _⟩ => ⟨S5000x128, .bf16⟩
  | .hbm, ⟨11, _⟩ => ⟨S5000, .f32⟩
  | .hbm, ⟨12, _⟩ => ⟨S5000, .f32⟩
  | .hbm, ⟨13, _⟩ => ⟨S5000, .bf16⟩
  | .hbm, ⟨14, _⟩ => ⟨S5000x1, .bf16⟩
  | .hbm, ⟨15, _⟩ => ⟨S_, .bf16⟩
  | .hbm, ⟨16, _⟩ => ⟨S5000x7, .bf16⟩
  | .hbm, ⟨17, _⟩ => ⟨S5000x136, .bf16⟩
  | .hbm, ⟨18, _⟩ => ⟨S5000x136, .f32⟩
  | .hbm, ⟨19, _⟩ => ⟨S5000x136, .f32⟩
  | .hbm, ⟨20, _⟩ => ⟨S_, .f32⟩
  | .hbm, ⟨21, _⟩ => ⟨S5000, .f32⟩
  | .hbm, ⟨22, _⟩ => ⟨S5000, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S16x5000x2048, .f32⟩
  | .hbm, ⟨27, _⟩ => ⟨S16x2048x5000, .f32⟩
  | .local _ .vmem, ⟨0, _⟩ => ⟨S1x1024x128, .f32⟩
  | .local _ .vmem, ⟨1, _⟩ => ⟨S1x1024x128, .f32⟩
  | .local _ .vmem, ⟨2, _⟩ => ⟨S5000x136, .bf16⟩
  | .local _ .vmem, ⟨3, _⟩ => ⟨S1x1, .f32⟩
  | .local _ .vmem, ⟨4, _⟩ => ⟨S1x5000x1024, .f32⟩
  | .local _ .vmem, ⟨5, _⟩ => ⟨S1x5000x1024, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5000x136 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x5000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S16x2048x128 : Shape := ⟨3, ![16, 2048, 128]⟩
abbrev S16 : Shape := ⟨1, ![16]⟩
abbrev S5000x128 : Shape := ⟨2, ![5000, 128]⟩
abbrev S5000 : Shape := ⟨1, ![5000]⟩
abbrev S16x2048x5000 : Shape := ⟨3, ![16, 2048, 5000]⟩
abbrev S1x1x5000 : Shape := ⟨3, ![1, 1, 5000]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16, .i32⟩
  | .hbm, ⟨2, _⟩ => ⟨S5000x128, .f32⟩
  | .hbm, ⟨3, _⟩ => ⟨S5000, .f32⟩
  | .hbm, ⟨4, _⟩ => ⟨S16x2048x5000, .f32⟩
  | .hbm, ⟨5, _⟩ => ⟨S1x1x5000, .f32⟩
  | .hbm, ⟨6, _⟩ => ⟨S16x2048x5000, .f32⟩
  | .hbm, ⟨7, _⟩ => ⟨S16x2048x5000, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048x1, .f32⟩
  | .hbm, ⟨14, _⟩ => ⟨S16x2048x5000, .f32⟩
  | .hbm, ⟨15, _⟩ => ⟨S16x2048x5000, .f32⟩
  | .hbm, ⟨16, _⟩ => ⟨S16x2048x5000, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x1, .f32⟩
  | .hbm, ⟨21, _⟩ => ⟨S16x2048x5000, .f32⟩
  | .hbm, ⟨22, _⟩ => ⟨S16x2048x5000, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_all_finite
public import Idealize.ShloMosaic.Lib.Quiescent

/-! The runs: arguments unchanged, counters at zero; and the two named constants. -/

@[expose] public section

noncomputable section

namespace Cert.Proof

open Idealize.ShloMosaic Idealize.SL.Sem

/-- The kernel at machine floats runs, leaves its arguments unchanged and ends with every counter at zero. -/
theorem frame_kernel : Cert.quiescent_Kernel := fun m g _ => Cert.Kernel.Gen.frame m g

/-- The idealized kernel runs, leaves its arguments unchanged and ends with every counter at zero. -/
theorem frame_kernelIdeal : Cert.quiescent_KernelIdeal := fun m g _ => Cert.KernelIdeal.Gen.frame m g

/-- The same for the idealized kernel from finite arguments: the frame asks nothing of them. -/
theorem frame_kernelIdeal_finite : Cert.quiescent_KernelIdeal_pre_all_finite :=
  fun m g _ => Cert.KernelIdeal.Gen.frame m g

/-- The reference, a program of host operations with no semaphore of its own, runs and leaves its arguments unchanged. -/
theorem frame_referenceIdeal : Cert.quiescent_ReferenceIdeal := fun m g _ =>
  θ_run_and
    ((θ_run Cert.ReferenceIdeal.defs _ _).mono (fun _ h c => (h c).2) (Cert.ReferenceIdeal.Value.run (F := Ideal) m g))
    ((θ_run Cert.ReferenceIdeal.defs _ _).mono (fun r _ => sem_eq_zero_of_no_sems (by decide) r.2)
      (Cert.ReferenceIdeal.Value.run (F := Ideal) m g))

/-- The same for the reference from finite arguments. -/
theorem frame_referenceIdeal_finite : Cert.quiescent_ReferenceIdeal_pre_all_finite :=
  fun m g _ => frame_referenceIdeal m g trivial

/-- The two rounded constants the kernel spells are, under their names, exactly `1 / log 2` and `log 2`. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

end Cert.Proof

end
-- ==== Proof.Reals.lean ====
module

public import Idealize.ShloMosaic.PureOps.Ideal
public import Mathlib.Analysis.SpecialFunctions.Log.Basic
public import Mathlib.Analysis.SpecialFunctions.Pow.Real

/-! The mathematics over the reals: two roads to a log-softmax, and the contraction of augmented rows. -/

@[expose] public section

noncomputable section

namespace Cert.LogSoftmax

open Idealize.ShloMosaic

/-- The logarithm of the softmax of `n` real logits, at one of them. -/
def logSoftmax {n : ℕ} (L : Fin n → ℝ) (v : Fin n) : ℝ := L v - Real.log (∑ u, Real.exp (L u))

/-- The extended real of a finite sum of reals is the sum of the extended reals. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The greatest of finitely many reals, at least one of them, is a real. -/
theorem fold_max_real {n : ℕ} (f : Fin (n + 1) → ℝ) :
    ∃ M : ℝ, Finset.univ.fold max (⊥ : EReal) (fun u => ((f u : ℝ) : EReal)) = (M : EReal) := by
  refine ⟨(Finset.univ.fold max (⊥ : EReal) (fun u => ((f u : ℝ) : EReal))).toReal, (EReal.coe_toReal ?_ ?_).symm⟩
  · exact ne_of_lt ((Finset.fold_max_lt _).mpr ⟨bot_lt_top, fun u _ => EReal.coe_lt_top _⟩)
  · exact ne_of_gt ((Finset.lt_fold_max _).mpr (Or.inr ⟨0, Finset.mem_univ _, EReal.bot_lt_coe _⟩))

/-- A sum of exponentials of at least one real is positive. -/
theorem sum_exp_pos {n : ℕ} (L : Fin (n + 1) → ℝ) : 0 < ∑ u, Real.exp (L u) :=
  Finset.sum_pos (fun u _ => Real.exp_pos _) Finset.univ_nonempty

/-- The logarithm of 2 is positive. -/
theorem log_two_pos : 0 < Real.log 2 := Real.log_pos (by norm_num)

/-- Subtracting a constant from every logit subtracts it from the logarithm of the sum of exponentials. -/
theorem log_sum_shift {n : ℕ} (L : Fin (n + 1) → ℝ) (M : ℝ) :
    Real.log (∑ u, Real.exp (L u - M)) = Real.log (∑ u, Real.exp (L u)) - M := by
  have h : ∑ u, Real.exp (L u - M) = (∑ u, Real.exp (L u)) * Real.exp (-M) := by
    rw [Finset.sum_mul]
    exact Finset.sum_congr rfl fun u _ => by rw [← Real.exp_add, sub_eq_add_neg]
  rw [h, Real.log_mul (sum_exp_pos L).ne' (Real.exp_pos _).ne', Real.log_exp, sub_eq_add_neg]

/-- In base 2, with the logits divided by `log 2`: a power of 2 is the exponential of the undivided logit. -/
theorem rpow_two_shift (a c : ℝ) : Real.rpow 2 (a * (Real.log 2)⁻¹ - c) = Real.exp (a - c * Real.log 2) := by
  show (2 : ℝ) ^ (a * (Real.log 2)⁻¹ - c) = _
  rw [Real.rpow_def_of_pos (by norm_num)]
  congr 1
  have := log_two_pos.ne'
  field_simp

/-- The base-2 road to the log-softmax: divide the logits by `log 2`, subtract any real `c`, sum powers of 2, take the
    logarithm, divide it by `log 2`, add `c` back, subtract that from the divided logit, multiply by `log 2`. -/
theorem base_two {n : ℕ} (L : Fin (n + 1) → ℝ) (c : ℝ) (v : Fin (n + 1)) :
    (((L v * (Real.log 2)⁻¹ : ℝ) : EReal)
        - ((c : EReal) + Ideal.log (∑ u, Ideal.exp2 (((L u * (Real.log 2)⁻¹ : ℝ) : EReal) - (c : EReal)))
            * (((Real.log 2)⁻¹ : ℝ) : EReal)))
      * ((Real.log 2 : ℝ) : EReal) = ((logSoftmax L v : ℝ) : EReal) := by
  have hs : ∑ u, Ideal.exp2 (((L u * (Real.log 2)⁻¹ : ℝ) : EReal) - (c : EReal))
      = ((∑ u, Real.exp (L u - c * Real.log 2) : ℝ) : EReal) := by
    rw [← coe_sum]
    exact Finset.sum_congr rfl fun u _ => by rw [← EReal.coe_sub, Ideal.exp2_coe, rpow_two_shift]
  rw [hs, Ideal.log_coe, if_neg (not_le.mpr (sum_exp_pos _)), log_sum_shift, ← EReal.coe_mul, ← EReal.coe_add,
    ← EReal.coe_sub, ← EReal.coe_mul]
  congr 1
  unfold logSoftmax
  have := log_two_pos.ne'
  field_simp
  ring

/-- The plain road to the log-softmax: subtract any real `M` from the logits, and from each the logarithm of the sum of
    their exponentials. -/
theorem shifted {n : ℕ} (L : Fin (n + 1) → ℝ) (M : ℝ) (v : Fin (n + 1)) :
    (((L v : ℝ) : EReal) - (M : EReal)) - Ideal.log (∑ u, Ideal.exp (((L u : ℝ) : EReal) - (M : EReal)))
      = ((logSoftmax L v : ℝ) : EReal) := by
  have hs : ∑ u, Ideal.exp (((L u : ℝ) : EReal) - (M : EReal)) = ((∑ u, Real.exp (L u - M) : ℝ) : EReal) := by
    rw [← coe_sum]
    exact Finset.sum_congr rfl fun u _ => by rw [← EReal.coe_sub, Ideal.exp_coe]
  rw [hs, Ideal.log_coe, if_neg (not_le.mpr (sum_exp_pos _)), log_sum_shift, ← EReal.coe_sub, ← EReal.coe_sub]
  congr 1
  unfold logSoftmax
  ring

/-! ## The augmented operands: 128 entries, one for the bias, seven zeros -/

/-- A row of weights, then its bias, then seven zeros, all divided by `log 2`. -/
def augW (w : Fin 128 → ℝ) (b : ℝ) (k : Fin 136) : ℝ :=
  if h : k.val < 128 then w ⟨k.val, h⟩ * (Real.log 2)⁻¹ else if k.val - 128 < 1 then b * (Real.log 2)⁻¹ else 0

/-- A row of inputs, then a one, then seven zeros. -/
def augX (x : Fin 128 → ℝ) (k : Fin 136) : ℝ :=
  if h : k.val < 128 then x ⟨k.val, h⟩ else if k.val - 128 < 1 then 1 else 0

/-- The logit of one row of weights on one row of inputs. -/
def logit (w : Fin 128 → ℝ) (b : ℝ) (x : Fin 128 → ℝ) : ℝ := ∑ k, x k * w k + b

/-- Contracting the augmented rows gives the logit divided by `log 2`. -/
theorem sum_aug (w : Fin 128 → ℝ) (b : ℝ) (x : Fin 128 → ℝ) :
    ∑ k, augW w b k * augX x k = logit w b x * (Real.log 2)⁻¹ := by
  have h := Fin.sum_univ_add (a := 128) (b := 8) (fun k : Fin (128 + 8) => augW w b k * augX x k)
  refine h.trans ?_
  have h1 : ∑ i : Fin 128, augW w b (Fin.castAdd 8 i) * augX x (Fin.castAdd 8 i) = (∑ k, x k * w k) * (Real.log 2)⁻¹ := by
    rw [Finset.sum_mul]
    refine Finset.sum_congr rfl fun i _ => ?_
    simp only [augW, augX, Fin.val_castAdd, i.isLt, ↓reduceDIte, Fin.eta]
    ring
  have h2 : ∑ i : Fin 8, augW w b (Fin.natAdd 128 i) * augX x (Fin.natAdd 128 i) = b * (Real.log 2)⁻¹ := by
    rw [Fin.sum_univ_succ]
    simp [augW, augX]
  rw [h1, h2, logit, add_mul]

/-! ## The float constants the programs spell, at the extended reals -/

/-- `2.0` denotes the real 2. -/
theorem ofBits_two : Ideal.ofBits .f32 0x40000000#32 = ((2 : ℝ) : EReal) := by
  simp [Ideal.ofBits, Ideal.ieee, -EReal.coe_mul]; norm_num

/-- `0.5` denotes the real 1/2. -/
theorem ofBits_half : Ideal.ofBits .f32 0x3F000000#32 = ((1 / 2 : ℝ) : EReal) := by
  simp [Ideal.ofBits, Ideal.ieee, -EReal.coe_mul]; norm_num

/-- The pattern of minus infinity denotes the least extended real. -/
theorem ofBits_neg_inf : Ideal.ofBits .f32 0xFF800000#32 = (⊥ : EReal) := by
  simp [Ideal.ofBits, Ideal.ieee]

/-- The pattern of plus infinity denotes the greatest extended real. -/
theorem ofBits_inf : Ideal.ofBits .f32 0x7F800000#32 = (⊤ : EReal) := by
  simp [Ideal.ofBits, Ideal.ieee]

/-- The scale the host computes, one over the logarithm of two, is the real `1 / log 2`. -/
theorem host_scale : Ideal.div 1 (Ideal.log (Ideal.ofBits .f32 0x40000000#32)) = (((Real.log 2)⁻¹ : ℝ) : EReal) := by
  rw [ofBits_two, Ideal.log_coe, if_neg (by norm_num), Ideal.div_coe log_two_pos.ne', one_mul, one_div]

/-- The square root of a sum of squares of reals, plus a nonnegative real, is a real. -/
theorem sqrt_real (r : ℝ) (h : 0 ≤ r) : Ideal.sqrt (r : EReal) = ((Real.sqrt r : ℝ) : EReal) := by
  rw [Ideal.sqrt_coe, if_neg (not_lt.mpr h)]

end Cert.LogSoftmax

end
-- ==== Proof.Block.lean ====
module

public import proofs.«01_k».proof.Defs
public import proofs.«01_k».proof.Proof.Gen.KernelIdeal.Frame
public import proofs.«01_k».proof.Proof.Reals
public import Idealize.ShloMosaic.Lib.Pipeline.ValueKit
public import Idealize.ShloMosaic.Lib.Pointwise

/-! What one block computes, when what it reads is real: a log-softmax at each of its entries. -/

@[expose] public section

set_option maxRecDepth 16384

noncomputable section

namespace Cert.KernelIdeal.Value

open Idealize.ShloMosaic Idealize.SL.Sem Idealize.ShloMosaic.TcCoe
open Cert.KernelIdeal Cert.KernelIdeal.Gen Cert.LogSoftmax

/-- The named constant `log2e` is the real `1 / log 2`. -/
theorem log2e_value : Named.named (F := Ideal) κ "log2e" (φ := .f32) 0x3FB8AA3B#32 = (((Real.log 2)⁻¹ : ℝ) : EReal) :=
  IdealRules.named_const.ideal_named_scalar _ _ _ _ rfl

/-- The named constant `ln2` is the real `log 2`. -/
theorem ln2_value : Named.named (F := Ideal) κ "ln2" (φ := .f32) 0x3F317218#32 = ((Real.log 2 : ℝ) : EReal) :=
  IdealRules.named_const.ideal_named_scalar _ _ _ _ rfl

/-- The augmented inputs of a block. -/
theorem inputs_read (x : FVec Ideal S1x1024x128 .f32) (X : Fin 1024 → Fin 128 → ℝ)
    (hX : ∀ r k, x (ix3 0 r k) = ((X r k : ℝ) : EReal)) (r : Fin 1024) (k : Fin 136) :
    k0_pay4 (F := Ideal) x (ix2 r k) = ((augX (X r) k : ℝ) : EReal) := by
  pointwise [k0_pay4, k0_pay3]
  simp only [hX]
  unfold augX
  split_ifs <;> simp

/-- A contraction of augmented weights with augmented inputs is the logit divided by `log 2`. -/
theorem contraction (w : Fin 128 → ℝ) (b : ℝ) (x : Fin 128 → ℝ) :
    ∑ k : Fin 136, ((augW w b k : ℝ) : EReal) * ((augX x k : ℝ) : EReal) = ((logit w b x * (Real.log 2)⁻¹ : ℝ) : EReal) := by
  rw [← sum_aug, ← coe_sum]
  exact Finset.sum_congr rfl fun k _ => (EReal.coe_mul _ _).symm

/-- The block's normalizer at an input row: a real shift and the shifted logarithm of the sum of powers of 2. -/
theorem normalizer (x : FVec Ideal S1x1024x128 .f32) (A : FVec Ideal S5000x136 .bf16) (a : FVec Ideal S1x1 .f32)
    (X : Fin 1024 → Fin 128 → ℝ) (W : Fin 5000 → Fin 128 → ℝ) (B : Fin 5000 → ℝ) (α : ℝ)
    (hX : ∀ r k, x (ix3 0 r k) = ((X r k : ℝ) : EReal))
    (hA : ∀ u k, A (ix2 u k) = ((augW (W u) (B u) k : ℝ) : EReal)) (ha : a (ix2 0 0) = ((α : ℝ) : EReal)) (r : Fin 1024) :
    ∃ γ : ℝ, k0_pay5 (F := Ideal) x A a (ix2 0 r) = (γ : EReal)
      + Ideal.log (∑ u, Ideal.exp2 (((logit (W u) (B u) (X r) * (Real.log 2)⁻¹ : ℝ) : EReal) - (γ : EReal)))
        * (((Real.log 2)⁻¹ : ℝ) : EReal) := by
  have hc : ∃ γ : ℝ, ((α : ℝ) : EReal) * Ideal.sqrt (∑ i, ((X r i : ℝ) : EReal) * ((X r i : ℝ) : EReal) + 1)
      + Ideal.ofBits .f32 1056964608#32 = (γ : EReal) := by
    have hs : ∑ i, ((X r i : ℝ) : EReal) * ((X r i : ℝ) : EReal) + 1 = ((∑ i, X r i * X r i + 1 : ℝ) : EReal) := by
      rw [EReal.coe_add, ← coe_sum]
      simp only [EReal.coe_mul, EReal.coe_one]
    refine ⟨α * Real.sqrt (∑ i, X r i * X r i + 1) + 1 / 2, ?_⟩
    rw [hs, sqrt_real _ (by have := Finset.sum_nonneg fun i (_ : i ∈ Finset.univ) => mul_self_nonneg (X r i); linarith), ofBits_half,
      EReal.coe_add, EReal.coe_mul]
  obtain ⟨γ, hγ⟩ := hc
  refine ⟨γ, ?_⟩
  pointwise [k0_pay5, k0_pay3]
  simp only [hX, hA, ha, inputs_read x X hX, contraction, hγ, log2e_value]
  rfl

section Entries

variable (x : FVec Ideal S1x1024x128 .f32) (A : FVec Ideal S5000x136 .bf16) (a : FVec Ideal S1x1 .f32)
    (X : Fin 1024 → Fin 128 → ℝ) (W : Fin 5000 → Fin 128 → ℝ) (B : Fin 5000 → ℝ) (α : ℝ)
    (hX : ∀ r k, x (ix3 0 r k) = ((X r k : ℝ) : EReal))
    (hA : ∀ u k, A (ix2 u k) = ((augW (W u) (B u) k : ℝ) : EReal)) (ha : a (ix2 0 0) = ((α : ℝ) : EReal))

include hX hA ha

/-- An entry of the rows the block stores second, where the tile's row `v` is row `u` of the weights. -/
theorem entry_high (T : FVec Ideal S2504x136 .bf16) (v : Fin 2504) (u : Fin 5000)
    (hT : ∀ k, T (ix2 v k) = ((augW (W u) (B u) k : ℝ) : EReal)) (r : Fin 1024) :
    k0_pay2 (F := Ideal) (k0_pay4 x) (k0_pay5 x A a) T (ix3 0 v r)
      = ((logSoftmax (fun u => logit (W u) (B u) (X r)) u : ℝ) : EReal) := by
  obtain ⟨γ, hγ⟩ := normalizer x A a X W B α hX hA ha r
  pointwise [k0_pay2]
  simp only [hT, inputs_read x X hX, contraction, hγ, ln2_value]
  exact base_two (n := 4999) (fun u => logit (W u) (B u) (X r)) γ u

/-- An entry of the rows the block stores first, where the tile's row `v` is row `u` of the weights. -/
theorem entry_low (T : FVec Ideal S2496x136 .bf16) (v : Fin 2496) (u : Fin 5000)
    (hT : ∀ k, T (ix2 v k) = ((augW (W u) (B u) k : ℝ) : EReal)) (r : Fin 1024) :
    k0_pay1 (F := Ideal) (k0_pay6 x A a T) (ix3 0 v r)
      = ((logSoftmax (fun u => logit (W u) (B u) (X r)) u : ℝ) : EReal) := by
  obtain ⟨γ, hγ⟩ := normalizer x A a X W B α hX hA ha r
  pointwise [k0_pay6, k0_pay1]
  simp only [hT, inputs_read x X hX, contraction, hγ, ln2_value]
  exact base_two (n := 4999) (fun u => logit (W u) (B u) (X r)) γ u

end Entries

end Cert.KernelIdeal.Value

end
-- ==== Proof.Prefix.lean ====
module

public import proofs.«01_k».proof.Defs
public import proofs.«01_k».proof.Proof.Gen.KernelIdeal.Frame
public import proofs.«01_k».proof.Proof.Reals
public import Idealize.ShloMosaic.Lib.Pipeline.ValueKit
public import Idealize.ShloMosaic.Lib.Pointwise
public import Idealize.ShloMosaic.Lib.StableHlo.ReadAt

/-! What the host hands the kernel: the augmented weights and the greatest of their rows' norms. -/

@[expose] public section

set_option maxRecDepth 16384

noncomputable section

namespace Cert.KernelIdeal.Value

open Idealize.ShloMosaic Idealize.SL.Sem Idealize.ShloMosaic.TcCoe
open Cert.KernelIdeal Cert.KernelIdeal.Gen Cert.LogSoftmax

variable (m : (ℓ : Loc nD τ sig) → Buf (Elt Ideal) ℓ)

/-- The augmented weights as an array of the kernel's operand shape. -/
def augArr (W : Fin 5000 → Fin 128 → ℝ) (B : Fin 5000 → ℝ) : FVec Ideal S5000x136 .bf16 :=
  fun i => ((augW (W (i 0)) (B (i 0)) (i 1) : ℝ) : EReal)

/-- An entry of the augmented weights, spelt over the extended reals. -/
theorem augArr_ix (W : Fin 5000 → Fin 128 → ℝ) (B : Fin 5000 → ℝ) (u : Fin 5000) (k : Fin 136) :
    augArr W B (ix2 u k) = ((augW (W u) (B u) k : ℝ) : EReal) := rfl

/-- The three cases of an augmented row over the extended reals are the real row's. -/
theorem coe_augW (w : Fin 128 → ℝ) (b : ℝ) (k : Fin 136) :
    (if h : k.val < 128 then ((w ⟨k.val, h⟩ : ℝ) : EReal) * (((Real.log 2)⁻¹ : ℝ) : EReal)
      else if k.val - 128 < 1 then ((b : ℝ) : EReal) * (((Real.log 2)⁻¹ : ℝ) : EReal) else 0) = ((augW w b k : ℝ) : EReal) := by
  unfold augW
  split_ifs <;> simp

/-- The host's first operand array: the weights and the biases, scaled and padded. -/
theorem weights_read (c : Dev nD) (W : Fin 5000 → Fin 128 → ℝ) (B : Fin 5000 → ℝ)
    (hW : ∀ u k, m (c, Proc.tc.devRef main_arg2) (ix2 u k) = ((W u k : ℝ) : EReal))
    (hB : ∀ u, m (c, Proc.tc.devRef main_arg3) (ix1 u) = ((B u : ℝ) : EReal)) (u : Fin 5000) (k : Fin 136) :
    V m c main_v10 (ix2 u k) = augArr W B (ix2 u k) := by
  unfold V V0
  rw [List.flatten_singleton]
  after_reads_at
  after_reads_at
  rw [augArr_ix, ← coe_augW]
  simp only [hW, hB, host_scale]
  rfl

/-- The host's second operand: some real. -/
theorem norm_read (c : Dev nD) (W : Fin 5000 → Fin 128 → ℝ) (B : Fin 5000 → ℝ)
    (hW : ∀ u k, m (c, Proc.tc.devRef main_arg2) (ix2 u k) = ((W u k : ℝ) : EReal))
    (hB : ∀ u, m (c, Proc.tc.devRef main_arg3) (ix1 u) = ((B u : ℝ) : EReal)) :
    ∃ α : ℝ, V m c main_v16 (ix2 0 0) = ((α : ℝ) : EReal) := by
  unfold V V0
  rw [List.flatten_singleton]
  after_reads_at
  after_reads_at
  simp only [hW, hB, host_scale]
  obtain ⟨M, hM⟩ := fold_max_real (n := 4999) fun u => Real.sqrt (∑ k, augW (W u) (B u) k * augW (W u) (B u) k)
  refine ⟨M, Eq.trans ?_ hM⟩
  rw [ofBits_neg_inf]
  refine congrArg (fun f => Finset.fold max (⊥ : EReal) f Finset.univ) (funext fun u => ?_)
  refine (congrArg Ideal.sqrt ((Finset.sum_congr rfl fun k _ => ?_).trans (coe_sum _))).trans
    (sqrt_real _ (Finset.sum_nonneg fun k _ => mul_self_nonneg (augW (W u) (B u) k)))
  rw [EReal.coe_mul, ← coe_augW]
  rfl

end Cert.KernelIdeal.Value

end
-- ==== Proof.Array.lean ====
module

public import proofs.«01_k».proof.Proof.Block
public import proofs.«01_k».proof.Proof.Prefix

/-! What the kernel's output array holds: the log-softmax, vocabulary before time. -/

@[expose] public section

set_option maxRecDepth 16384

noncomputable section

namespace Cert.KernelIdeal.Value

open Idealize.ShloMosaic Idealize.SL.Sem Idealize.ShloMosaic.TcCoe
open Cert.KernelIdeal Cert.KernelIdeal.Gen Cert.LogSoftmax

variable (m : (ℓ : Loc nD τ sig) → Buf (Elt Ideal) ℓ)

/-- Which block each window reads or writes at each grid step. -/
theorem idx : ∀ t : Fin cfg0.N, win0_0.index t = ![t.val / 2, t.val % 2, 0] ∧ win0_1.index t = ![0, 0]
    ∧ win0_2.index t = ![0, 0] ∧ win0_3.index t = ![t.val / 2, 0, t.val % 2] :=
  (by decide +kernel : ∀ t : Fin grid0.N, _)

/-- The output array: at batch `b`, label `v` and time `r`, the log-softmax of the logits of that input row. -/
def outArr (X : Fin 16 → Fin 2048 → Fin 128 → ℝ) (W : Fin 5000 → Fin 128 → ℝ) (B : Fin 5000 → ℝ) : FVec Ideal S16x5000x2048 .f32 :=
  fun i => ((logSoftmax (fun u => logit (W u) (B u) (X (i 0) (i 2))) (i 1) : ℝ) : EReal)

/-- An entry of the output array, from the values of its three coordinates. -/
theorem outArr_at (X : Fin 16 → Fin 2048 → Fin 128 → ℝ) (W : Fin 5000 → Fin 128 → ℝ) (B : Fin 5000 → ℝ) (i : S16x5000x2048.Idx)
    (b : Fin 16) (v : Fin 5000) (r : Fin 2048) (h0 : (i 0).val = b.val) (h1 : (i 1).val = v.val) (h2 : (i 2).val = r.val) :
    ((logSoftmax (fun u => logit (W u) (B u) (X b r)) v : ℝ) : EReal) = outArr X W B i := by
  obtain rfl : i 0 = b := Fin.ext h0
  obtain rfl : i 1 = v := Fin.ext h1
  obtain rfl : i 2 = r := Fin.ext h2
  rfl

section Reads

variable (c : Dev nD) (X : Fin 16 → Fin 2048 → Fin 128 → ℝ) (W : Fin 5000 → Fin 128 → ℝ) (B : Fin 5000 → ℝ)
    (hX : ∀ b r k, m (c, Proc.tc.devRef main_arg0) (ix3 b r k) = ((X b r k : ℝ) : EReal))
    (hW : ∀ u k, m (c, Proc.tc.devRef main_arg2) (ix2 u k) = ((W u k : ℝ) : EReal))
    (hB : ∀ u, m (c, Proc.tc.devRef main_arg3) (ix1 u) = ((B u : ℝ) : EReal))
include hX hW hB

/-- The block of inputs a grid step reads. -/
theorem block_inputs (t : Fin cfg0.N) (r : Fin 1024) (k : Fin 128) (b : Fin 16) (s : Fin 2048) (hb : b.val = t.val / 2)
    (hs : s.val = t.val % 2 * 1024 + r.val) :
    iblk m c 0 t (ix3 0 r k) = ((X b s k : ℝ) : EReal) := by
  rw [← hX]
  have e : V m c main_arg0 = m (c, Proc.tc.devRef main_arg0) := by
    unfold V V0
    rw [List.flatten_singleton]
    after_reads_at
  rw [← e]
  blk_ext [iblk, idx t, hb, hs]

/-- The block of weights a grid step reads: all of them. -/
theorem block_weights (t : Fin cfg0.N) (u : Fin 5000) (k : Fin 136) :
    iblk m c 1 t (ix2 u k) = ((augW (W u) (B u) k : ℝ) : EReal) := by
  rw [← augArr_ix, ← weights_read m c W B hW hB]
  blk_ext [iblk, idx t]

/-- The block of the greatest norm a grid step reads: the one number, a real. -/
theorem block_norm (t : Fin cfg0.N) : ∃ α : ℝ, iblk m c 2 t (ix2 0 0) = ((α : ℝ) : EReal) := by
  obtain ⟨α, hα⟩ := norm_read m c W B hW hB
  refine ⟨α, ?_⟩
  have e : ∀ p q : Fin 1, iblk m c 2 t (ix2 p q) = V m c main_v16 (ix2 p q) := fun p q => by
    unfold iblk
    generalize V m c = Z
    blk_ext [idx t]
  exact (e 0 0).trans hα

end Reads

/-- The array the kernel leaves. -/
theorem array (c : Dev nD) (X : Fin 16 → Fin 2048 → Fin 128 → ℝ) (W : Fin 5000 → Fin 128 → ℝ) (B : Fin 5000 → ℝ)
    (hX : ∀ b r k, m (c, Proc.tc.devRef main_arg0) (ix3 b r k) = ((X b r k : ℝ) : EReal))
    (hW : ∀ u k, m (c, Proc.tc.devRef main_arg2) (ix2 u k) = ((W u k : ℝ) : EReal))
    (hB : ∀ u, m (c, Proc.tc.devRef main_arg3) (ix1 u) = ((B u : ℝ) : EReal)) :
    (dats m 0 c).arrAt 3 cfg0.N = outArr X W B := by
  refine (dats m 0 c).arrAt_eq_of_covers 3 _ (by decide +kernel) fun t hf y => ?_
  blk_simp
  rw [after0_3]
  unfold outsAt0
  frame_out
  canon_tiles x h using (View.cover_of_tiledBy _ ![1, 8, 1024] (by sl_kernel_rfl) _)
  · idx_vars x
    have ht : t.val < 32 := t.isLt
    obtain rfl : x0 = 0 := Subsingleton.elim _ _
    obtain ⟨α, hα⟩ := block_norm m c X W B hX hW hB t
    refine (entry_high _ _ _ (X := fun r => X ⟨t.val / 2, by omega⟩ ⟨t.val % 2 * 1024 + r.val, by omega⟩) (W := W) (B := B) α
      (fun r k => block_inputs m c X W B hX hW hB t r k _ _ rfl rfl) (block_weights m c X W B hX hW hB t) hα _ x1
      ⟨2496 + x1.val, by omega⟩ (fun k => ?_) x2).trans ?_
    · rw [← block_weights m c X W B hX hW hB t]
      pointwise
    · refine outArr_at X W B _ _ _ _ ?_ ?_ ?_
      · blk_simp [idx t, h0]
        exact Nat.add_zero _
      · blk_simp [idx t, h1]
      · blk_simp [idx t, h2]
  · idx_vars x
    have ht : t.val < 32 := t.isLt
    obtain rfl : x0 = 0 := Subsingleton.elim _ _
    obtain ⟨α, hα⟩ := block_norm m c X W B hX hW hB t
    refine (entry_low _ _ _ (X := fun r => X ⟨t.val / 2, by omega⟩ ⟨t.val % 2 * 1024 + r.val, by omega⟩) (W := W) (B := B) α
      (fun r k => block_inputs m c X W B hX hW hB t r k _ _ rfl rfl) (block_weights m c X W B hX hW hB t) hα _ x1
      ⟨x1.val, by omega⟩ (fun k => ?_) x2).trans ?_
    · rw [← block_weights m c X W B hX hW hB t]
      pointwise
    · refine outArr_at X W B _ _ _ _ ?_ ?_ ?_
      · blk_simp [idx t, h0]
        exact Nat.add_zero _
      · blk_simp [idx t, h1]
      · blk_simp [idx t, h2]

end Cert.KernelIdeal.Value

end
-- ==== Proof.Finite.lean ====
module

public import proofs.«01_k».proof.Defs
public import proofs.«01_k».proof.Proof.Gen.Pre_all_finite
public import proofs.«01_k».proof.Proof.Reals
public import Idealize.ShloMosaic.Lib.ReduceAll
public import Idealize.ShloMosaic.Lib.WordCmp

/-! What the precondition gives: every entry of the inputs, the weights and the biases is a real. -/

@[expose] public section

noncomputable section

namespace Cert.Finite

open Idealize.ShloMosaic Cert.LogSoftmax

/-- An extended real whose absolute value is below plus infinity is a real. -/
theorem real_of_abs_lt (a : EReal) (h : Ideal.cmp .olt (max a (-a)) (Ideal.ofBits .f32 0x7F800000#32) = 1#1) :
    a = ((a.toReal : ℝ) : EReal) := by
  rw [ofBits_inf] at h
  have h1 : max a (-a) < ⊤ := of_decide_eq_true ((WordCmp.ofBool_eq_one_iff _).1 h)
  refine (EReal.coe_toReal ?_ ?_).symm
  · rintro rfl; simp at h1
  · rintro rfl; simp at h1

/-- The predicate `all_finite` makes every entry of its three float arrays a real. -/
theorem entries [Cert.Pre_all_finite.Facts] (x : FVec Ideal Cert.Pre_all_finite.S16x2048x128 .f32) (xl : IVec Cert.Pre_all_finite.S16 32)
    (W : FVec Ideal Cert.Pre_all_finite.S5000x128 .f32) (b : FVec Ideal Cert.Pre_all_finite.S5000 .f32)
    (h : Cert.Pre_all_finite.fn (F := Ideal) x xl W b = fun _ => 1#1) :
    (∀ i, x i = (((x i : EReal).toReal : ℝ) : EReal)) ∧ (∀ i, W i = (((W i : EReal).toReal : ℝ) : EReal))
      ∧ (∀ i, b i = (((b i : EReal).toReal : ℝ) : EReal)) := by
  have h0 := congrFun h (fun d => d.elim0)
  obtain ⟨h01, h2⟩ := IntOp.andi_eq_one.1 h0
  obtain ⟨h0, h1⟩ := IntOp.andi_eq_one.1 h01
  have : Subsingleton Cert.Pre_all_finite.S_.Idx := ⟨fun a b => funext fun d => d.elim0⟩
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i)⟩

end Cert.Finite

end
-- ==== Proof.Reference.lean ====
module

public import proofs.«01_k».proof.Defs
public import proofs.«01_k».proof.Proof.Gen.ReferenceIdeal.Run
public import proofs.«01_k».proof.Proof.Reals
public import Idealize.ShloMosaic.Lib.Pipeline.ValueKit
public import Idealize.ShloMosaic.Lib.Pointwise

/-! What the reference computes: a log-softmax at each of its entries. -/

@[expose] public section

set_option maxRecDepth 16384

noncomputable section

namespace Cert.ReferenceIdeal.Value

open Idealize.ShloMosaic Idealize.SL.Sem Idealize.ShloMosaic.TcCoe
open Cert.ReferenceIdeal Cert.ReferenceIdeal.Gen Cert.LogSoftmax

variable (x : FVec Ideal S16x2048x128 .f32) (W : FVec Ideal S5000x128 .f32) (b : FVec Ideal S5000 .f32)
  (X : Fin 16 → Fin 2048 → Fin 128 → ℝ) (W' : Fin 5000 → Fin 128 → ℝ) (B : Fin 5000 → ℝ)
  (hX : ∀ p r k, x (ix3 p r k) = ((X p r k : ℝ) : EReal)) (hW : ∀ u k, W (ix2 u k) = ((W' u k : ℝ) : EReal))
  (hB : ∀ u, b (ix1 u) = ((B u : ℝ) : EReal))

/-- The reference's array of logits. -/
def logits : FVec Ideal S16x2048x5000 .f32 :=
  addf (Host.dotGeneral dot_S16x2048x128_S5000x128_S16x2048x5000_2_1_01_0_n_n none x W) (broadcastInDim S16x2048x5000 ![0, 1, 2] bcast_S1x1x5000_S16x2048x5000_0_1_2 (broadcastInDim S1x1x5000 ![2] bcast_S5000_S1x1x5000_2 b))

/-- An array less the greatest entry of each row, as the reference takes it. -/
def shift (L : FVec Ideal S16x2048x5000 .f32) : FVec Ideal S16x2048x5000 .f32 :=
  subf L (broadcastInDim S16x2048x5000 ![0, 1, 2] bcast_S16x2048x1_S16x2048x5000_0_1_2 (broadcastInDim S16x2048x1 ![0, 1] bcast_S16x2048_S16x2048x1_0_1 (maximumf (broadcastInDim S16x2048 ![] bcast_S_S16x2048 (constant S_ .f32 0xFF800000#32)) (Host.reduce FloatOps.maximumf L (constant S_ .f32 0xFF800000#32) reducesTo_S16x2048x5000_S16x2048_d2 h_S_))))

/-- An array less the logarithm of the sum of the exponentials of each row. -/
def normalize (D : FVec Ideal S16x2048x5000 .f32) : FVec Ideal S16x2048x5000 .f32 :=
  subf D (broadcastInDim S16x2048x5000 ![0, 1, 2] bcast_S16x2048x1_S16x2048x5000_0_1_2 (Host.log (broadcastInDim S16x2048x1 ![0, 1] bcast_S16x2048_S16x2048x1_0_1 (Host.reduceAdd (Host.exp D) (constant S_ .f32 0x00000000#32) reducesTo_S16x2048x5000_S16x2048_d2 h_S_))))

include hX hW hB in
/-- An entry of the logits is a real. -/
theorem logits_read (p : Fin 16) (r : Fin 2048) (v : Fin 5000) :
    logits x W b (ix3 p r v) = ((logit (W' v) (B v) (X p r) : ℝ) : EReal) := by
  pointwise [logits]
  simp only [hX, hW, hB]
  rw [logit, EReal.coe_add, ← coe_sum]
  simp only [EReal.coe_mul]

/-- The greatest logit of a row, as the reference takes it. -/
def top (L : FVec Ideal S16x2048x5000 .f32) (p : Fin 16) (r : Fin 2048) : EReal :=
  max (Ideal.ofBits .f32 0xFF800000#32) (Finset.univ.fold max (Ideal.ofBits .f32 0xFF800000#32) fun u => L (ix3 p r u))

/-- The greatest entry of a row, read off the reduction over the last axis. -/
theorem row_max (L : FVec Ideal S16x2048x5000 .f32) (p : Fin 16) (r : Fin 2048) :
    Host.reduce FloatOps.maximumf L (constant (F := Ideal) S_ .f32 0xFF800000#32) reducesTo_S16x2048x5000_S16x2048_d2 h_S_ (ix2 p r)
      = Finset.univ.fold max (Ideal.ofBits .f32 0xFF800000#32) fun u => L (ix3 p r u) := by
  pointwise

/-- An array less one number for each row. -/
theorem sub_rows (L : FVec Ideal S16x2048x5000 .f32) (R : FVec Ideal S16x2048 .f32) (p : Fin 16) (r : Fin 2048) (v : Fin 5000) :
    subf L (broadcastInDim S16x2048x5000 ![0, 1, 2] bcast_S16x2048x1_S16x2048x5000_0_1_2 (broadcastInDim S16x2048x1 ![0, 1]
      bcast_S16x2048_S16x2048x1_0_1 (maximumf (broadcastInDim S16x2048 ![] bcast_S_S16x2048 (constant S_ .f32 0xFF800000#32)) R))) (ix3 p r v)
      = L (ix3 p r v) - max (Ideal.ofBits .f32 0xFF800000#32) (R (ix2 p r)) := by
  pointwise

/-- An entry of the shifted array. -/
theorem shift_open (L : FVec Ideal S16x2048x5000 .f32) (p : Fin 16) (r : Fin 2048) (v : Fin 5000) :
    shift L (ix3 p r v) = L (ix3 p r v) - top L p r := by
  unfold shift top
  rw [sub_rows, row_max]

/-- An entry of the normalized array. -/
theorem normalize_open (D : FVec Ideal S16x2048x5000 .f32) (p : Fin 16) (r : Fin 2048) (v : Fin 5000) :
    normalize D (ix3 p r v) = D (ix3 p r v) - Ideal.log (∑ u, Ideal.exp (D (ix3 p r u))) := by
  pointwise [normalize]

/-- The greatest logit of a row of real logits is a real. -/
theorem top_real (L : FVec Ideal S16x2048x5000 .f32) (L' : Fin 16 → Fin 2048 → Fin 5000 → ℝ)
    (hL : ∀ p r v, L (ix3 p r v) = ((L' p r v : ℝ) : EReal)) (p : Fin 16) (r : Fin 2048) : ∃ M : ℝ, top L p r = (M : EReal) := by
  obtain ⟨M, hM⟩ := fold_max_real (n := 4999) (L' p r)
  refine ⟨M, ?_⟩
  unfold top
  simp only [hL, ofBits_neg_inf, bot_le, max_eq_right]
  exact hM

/-- An entry of the result over real logits: the log-softmax. -/
theorem result_read (L : FVec Ideal S16x2048x5000 .f32) (L' : Fin 16 → Fin 2048 → Fin 5000 → ℝ)
    (hL : ∀ p r v, L (ix3 p r v) = ((L' p r v : ℝ) : EReal)) (p : Fin 16) (r : Fin 2048) (v : Fin 5000) :
    normalize (shift L) (ix3 p r v) = ((logSoftmax (L' p r) v : ℝ) : EReal) := by
  obtain ⟨M, hM⟩ := top_real L L' hL p r
  rw [normalize_open]
  simp only [shift_open, hM, hL]
  exact shifted (n := 4999) (L' p r) M v

end Cert.ReferenceIdeal.Value

end
-- ==== Proof.Algebraic.lean ====
module

public import proofs.«01_k».proof.Proof.Array
public import proofs.«01_k».proof.Proof.Finite
public import proofs.«01_k».proof.Proof.Reference
public import Idealize.ShloMosaic.Lib.Claim

/-! The equation: on finite inputs the idealized kernel returns the reference's array. -/

@[expose] public section

set_option maxRecDepth 16384

noncomputable section

namespace Cert.Proof

open Idealize.ShloMosaic Idealize.SL.Sem Idealize.ShloMosaic.TcCoe Cert.LogSoftmax
open Cert.KernelIdeal Cert.KernelIdeal.Gen Cert.KernelIdeal.Value

attribute [local instance] Cert.KernelIdeal.Gen.facts Cert.ReferenceIdeal.Gen.facts Cert.Pre_all_finite.Gen.facts

/-- What the program returns after the kernel: the kernel's array with its last two axes exchanged. -/
theorem returned (m : (ℓ : Loc nD τ sig) → Buf (Elt Ideal) ℓ) (c : Dev nD) (G : FVec Ideal S16x5000x2048 .f32)
    (hG : (dats m 0 c).arrAt 3 cfg0.N = G) (b : Fin 16) (r : Fin 2048) (v : Fin 5000) :
    (Pipeline.afterTail₀ cfgs (dats m) 0 (V0 m) [hostOps1] c main_v18) (ix3 b r v) = G (ix3 b v r) := by
  unfold Pipeline.afterTail₀
  rw [List.flatten_singleton]
  after_reads_at
  erw [Pipeline.withArrays_arr (cfgs 0).spec (by decide) c (V0 m c) _ 3]
  exact congrFun hG _

/-- From finite inputs the reference's term and the kernel's result are one array. -/
theorem equal (m : (ℓ : Loc nD τ sig) → Buf (Elt Ideal) ℓ) (hpre : Cert.Pre_KernelIdeal_all_finite m) (c : Dev nD) :
    Cert.ReferenceIdeal.Value.normalize (Cert.ReferenceIdeal.Value.shift (Cert.ReferenceIdeal.Value.logits
        (m (c.tc.loc main_arg0)) (m (c.tc.loc main_arg2)) (m (c.tc.loc main_arg3))))
      = (Pipeline.afterTail₀ cfgs (dats m) 0 (V0 m) [hostOps1] c main_v18 : FVec Ideal S16x2048x5000 .f32) := by
  obtain ⟨h0, h2, h3⟩ := Cert.Finite.entries _ _ _ _ (hpre c)
  have hX : ∀ p r k, m (c, Proc.tc.devRef main_arg0) (ix3 p r k) = _ := fun p r k => h0 (ix3 p r k)
  have hW : ∀ u k, m (c, Proc.tc.devRef main_arg2) (ix2 u k) = _ := fun u k => h2 (ix2 u k)
  have hB : ∀ u, m (c, Proc.tc.devRef main_arg3) (ix1 u) = _ := fun u => h3 (ix1 u)
  have hG := array m c (fun p r k => EReal.toReal (m (c, Proc.tc.devRef main_arg0) (ix3 p r k)))
    (fun u k => EReal.toReal (m (c, Proc.tc.devRef main_arg2) (ix2 u k)))
    (fun u => EReal.toReal (m (c, Proc.tc.devRef main_arg3) (ix1 u))) hX hW hB
  funext i
  idx_vars i
  refine Eq.trans ?_ (returned m c _ hG _ _ _).symm
  exact Cert.ReferenceIdeal.Value.result_read _ _ (Cert.ReferenceIdeal.Value.logits_read _ _ _ _ _ _ hX hW hB) _ _ _

/-- The idealized kernel runs; it returns what its last operation leaves, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.2 c).2 main_v18 (by decide), h.1 c⟩)
    (θ_run_and (Cert.KernelIdeal.Gen.unchanged m g) (Cert.KernelIdeal.Gen.run_main m g))

/-- On finite inputs the idealized kernel returns the reference's array: both hold the log-softmax of the real logits. -/
theorem algebraic : Cert.algebraic_KernelIdeal_ReferenceIdeal_pre_all_finite := by
  pair_intro
  · run_from kernel_run m g
  · run_from Cert.ReferenceIdeal.Value.run m' g'
    exact equal m hpre c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_all_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the five frames, the named constants, and the equation on finite inputs. -/
theorem claim : Cert.Claim :=
  ⟨Cert.Kernel.Gen.facts, Cert.KernelIdeal.Gen.facts, Cert.ReferenceIdeal.Gen.facts, Cert.Pre_all_finite.Gen.facts,
    frame_kernel, frame_kernelIdeal, frame_kernelIdeal_finite, frame_referenceIdeal, frame_referenceIdeal_finite, preserves,
    algebraic⟩

end Cert.Proof

end
